-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_cst_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_cst_7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_cst_2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S50000x3 : Shape := ⟨2, ![50000, 3]⟩
abbrev S5023x3 : Shape := ⟨2, ![5023, 3]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S5023x3 : S_.BroadcastsInDim S5023x3 (![] : Fin 0 → Fin S5023x3.rank)
  reducesTo_S5023x3_S_d0_1 : S5023x3.ReducesTo [0, 1] S_

variable [Facts]

def fn {F : FTy → Type} [FloatOps F] (main_arg0 : FVec F S50000x3 .f32) (main_arg1 : FVec F S5023x3 .f32) : IVec S_ 1 :=
  let main_v0 : FVec F S50000x3 .f32 := Host.absf main_arg0
  let main_cst : FVec F S_ .f32 := constant S_ .f32 0x5BB1A2BC#32
  let main_v1 : FVec F S50000x3 .f32 := broadcastInDim S50000x3 ![] bcast_S_S50000x3 main_cst
  let main_v2 : IVec S50000x3 1 := cmpf .ole main_v0 main_v1
  let main_c : IVec S_ 1 := constantI S_ 1 1#1
  let main_v3 : IVec S_ 1 := (fun x v => Host.reduce IntOp.andi x v reducesTo_S50000x3_S_d0_1 h_S_) main_v2 main_c
  let main_v4 : FVec F S5023x3 .f32 := Host.absf main_arg1
  let main_cst_0 : FVec F S_ .f32 := constant S_ .f32 0x5BB1A2BC#32
  let main_v5 : FVec F S5023x3 .f32 := broadcastInDim S5023x3 ![] bcast_S_S5023x3 main_cst_0
  let main_v6 : IVec S5023x3 1 := cmpf .ole main_v4 main_v5
  let main_c_1 : IVec S_ 1 := constantI S_ 1 1#1
  let main_v7 : IVec S_ 1 := (fun x v => Host.reduce IntOp.andi x v reducesTo_S5023x3_S_d0_1 h_S_) main_v6 main_c_1
  let main_v8 : IVec S_ 1 := andi main_v3 main_v7
  main_v8
-- ==== Kernel.lean ====
abbrev S50000x3 : Shape := ⟨2, ![50000, 3]⟩
abbrev S5023x3 : Shape := ⟨2, ![5023, 3]⟩
abbrev S_ : Shape := ⟨0, ![]⟩
abbrev S50176x8 : Shape := ⟨2, ![50176, 8]⟩
abbrev S1 : Shape := ⟨1, ![1]⟩
abbrev S2 : Shape := ⟨1, ![2]⟩
abbrev S8x5120 : Shape := ⟨2, ![8, 5120]⟩
abbrev S3x5023 : Shape := ⟨2, ![3, 5023]⟩
abbrev S3x97 : Shape := ⟨2, ![3, 97]⟩
abbrev S256x8 : Shape := ⟨2, ![256, 8]⟩
abbrev S1x5120 : Shape := ⟨2, ![1, 5120]⟩
abbrev S256x1 : Shape := ⟨2, ![256, 1]⟩
abbrev S256x5120 : Shape := ⟨2, ![256, 5120]⟩
abbrev S256 : Shape := ⟨1, ![256]⟩
abbrev S50000x8 : Shape := ⟨2, ![50000, 8]⟩

abbrev nBuf : Space → Nat
  | .hbm => 30
  | .vmem => 5
  | .smem => 0
  | _ => 0

abbrev bufTy : (tb : Table) → Fin (tcTables nBuf tb) → BufTy
  | .hbm, ⟨0, _⟩ => ⟨S50000x3, .f32⟩
  | .hbm, ⟨1, _⟩ => ⟨S5023x3, .f32⟩
  | .hbm, ⟨2, _⟩ => ⟨S_, .f32⟩
  | .hbm, ⟨3, _⟩ => ⟨S50176x8, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S50176x8, .f32⟩
  | .hbm, ⟨10, _⟩ => ⟨S_, .f32⟩
  | .hbm, ⟨11, _⟩ => ⟨S8x5120, .f32⟩
  | .hbm, ⟨12, _⟩ => ⟨S3x5023, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S8x5120, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S_, .f32⟩
  | .hbm, ⟨25, _⟩ => ⟨S3x97, .f32⟩
  | .hbm, ⟨26, _⟩ => ⟨S8x5120, .f32⟩
  | .hbm, ⟨27, _⟩ => ⟨S50176x8, .i32⟩
  | .hbm, ⟨28, _⟩ => ⟨S50000x8, .i32⟩
  | .hbm, ⟨29, _⟩ => ⟨S_, .f32⟩
  | .local _ .vmem, ⟨0, _⟩ => ⟨S256x8, .f32⟩
  | .local _ .vmem, ⟨1, _⟩ => ⟨S256x8, .f32⟩
  | .local _ .vmem, ⟨2, _⟩ => ⟨S8x5120, .f32⟩
  | .local _ .vmem, ⟨3, _⟩ => ⟨S256x8, .i32⟩
  | .local _ .vmem, ⟨4, _⟩ => ⟨S256x8, .i32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_c_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_c_5 : Ref sig .tc := ⟨.hbm, 21, rfl⟩
abbrev main_v12 : Ref sig .tc := ⟨.hbm, 22, rfl⟩
abbrev main_v13 : Ref sig .tc := ⟨.hbm, 23, rfl⟩
abbrev main_cst_6 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_7 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S50000x3 : Shape := ⟨2, ![50000, 3]⟩
abbrev S5023x3 : Shape := ⟨2, ![5023, 3]⟩
abbrev S_ : Shape := ⟨0, ![]⟩
abbrev S50000 : Shape := ⟨1, ![50000]⟩
abbrev S50000x1 : Shape := ⟨2, ![50000, 1]⟩
abbrev S5023 : Shape := ⟨1, ![5023]⟩
abbrev S3x5023 : Shape := ⟨2, ![3, 5023]⟩
abbrev S50000x5023 : Shape := ⟨2, ![50000, 5023]⟩
abbrev S1x5023 : Shape := ⟨2, ![1, 5023]⟩
abbrev S50000x9 : Shape := ⟨2, ![50000, 9]⟩
abbrev S50000x8 : Shape := ⟨2, ![50000, 8]⟩

abbrev nBuf : Space → Nat
  | .hbm => 24
  | .vmem => 0
  | .smem => 0
  | _ => 0

abbrev bufTy : (tb : Table) → Fin (tcTables nBuf tb) → BufTy
  | .hbm, ⟨0, _⟩ => ⟨S50000x3, .f32⟩
  | .hbm, ⟨1, _⟩ => ⟨S5023x3, .f32⟩
  | .hbm, ⟨2, _⟩ => ⟨S50000x3, .f32⟩
  | .hbm, ⟨3, _⟩ => ⟨S_, .f32⟩
  | .hbm, ⟨4, _⟩ => ⟨S50000, .f32⟩
  | .hbm, ⟨5, _⟩ => ⟨S50000x1, .f32⟩
  | .hbm, ⟨6, _⟩ => ⟨S5023x3, .f32⟩
  | .hbm, ⟨7, _⟩ => ⟨S_, .f32⟩
  | .hbm, ⟨8, _⟩ => ⟨S5023, .f32⟩
  | .hbm, ⟨9, _⟩ => ⟨S3x5023, .f32⟩
  | .hbm, ⟨10, _⟩ => ⟨S50000x5023, .f32⟩
  | .hbm, ⟨11, _⟩ => ⟨S_, .f32⟩
  | .hbm, ⟨12, _⟩ => ⟨S50000x5023, .f32⟩
  | .hbm, ⟨13, _⟩ => ⟨S50000x5023, .f32⟩
  | .hbm, ⟨14, _⟩ => ⟨S50000x5023, .f32⟩
  | .hbm, ⟨15, _⟩ => ⟨S50000x5023, .f32⟩
  | .hbm, ⟨16, _⟩ => ⟨S1x5023, .f32⟩
  | .hbm, ⟨17, _⟩ => ⟨S50000x5023, .f32⟩
  | .hbm, ⟨18, _⟩ => ⟨S50000x5023, .f32⟩
  | .hbm, ⟨19, _⟩ => ⟨S50000x5023, .f32⟩
  | .hbm, ⟨20, _⟩ => ⟨S50000x9, .f32⟩
  | .hbm, ⟨21, _⟩ => ⟨S50000x9, .i32⟩
  | .hbm, ⟨22, _⟩ => ⟨S50000x8, .i32⟩
  | .hbm, ⟨23, _⟩ => ⟨S_, .f32⟩
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_values : Ref sig .tc := ⟨.hbm, 20, rfl⟩
abbrev main_indices : Ref sig .tc := ⟨.hbm, 21, rfl⟩
abbrev main_v15 : Ref sig .tc := ⟨.hbm, 22, rfl⟩
abbrev main_cst_2 : Ref sig .tc := ⟨.hbm, 23, rfl⟩

abbrev nD : Nat := 1
abbrev τ : Topo := Topo.v7x

variable {F : FTy → Type} [FloatOps F]
-- ==== Proof.Order.lean ====
/-
  Picking the smallest entry again and again is the front of a stable sort.

  A row `x` of extended reals is searched in rounds: a round takes the first position at which the row is smallest and
  puts `+∞` there. If the first `N` positions of the row hold the entries `y`, each below `+∞`, and every later
  position (the padding) holds something at least as large as every `y`, then the first `K ≤ N` picks are, in order,
  the first `K` positions of the stable sort of `y`.
-/
module

public import Idealize.ShloMosaic.Lib.SortPrefix
public import Mathlib.Data.EReal.Basic
public import Mathlib.Data.Finset.Max
public import Mathlib.Data.Prod.Lex

@[expose] public section

namespace Cert.Order

open Idealize.ShloMosaic

/-- `i` is the first position at which the row `x` is smallest. -/
def IsFirstMin {W : ℕ} (x : Fin W → EReal) (i : Fin W) : Prop :=
  (∀ k, x i ≤ x k) ∧ ∀ k, x k = x i → i ≤ k

/-- A row with at least one position has a first smallest position. -/
theorem exists_isFirstMin {W : ℕ} [NeZero W] (x : Fin W → EReal) : ∃ i, IsFirstMin x i := by
  obtain ⟨i, -, h'⟩ := Finset.univ.exists_min_image (fun k : Fin W => toLex (x k, k)) ⟨0, Finset.mem_univ _⟩
  have h := fun k => h' k (Finset.mem_univ k)
  refine ⟨i, fun k => ?_, fun k e => ?_⟩
  · rcases Prod.Lex.toLex_le_toLex.mp (h k) with h | h
    · exact h.le
    · exact h.1.le
  · rcases Prod.Lex.toLex_le_toLex.mp (h k) with h | h
    · exact absurd e h.ne'
    · exact h.2

/-- The first smallest position is one position. -/
theorem IsFirstMin.unique {W : ℕ} {x : Fin W → EReal} {i j : Fin W} (hi : IsFirstMin x i) (hj : IsFirstMin x j) :
    i = j :=
  le_antisymm (hi.2 j (le_antisymm (hj.1 i) (hi.1 j))) (hj.2 i (le_antisymm (hi.1 j) (hj.1 i)))

/-- The first position at which the row `x` is smallest. -/
noncomputable def firstMin {W : ℕ} [NeZero W] (x : Fin W → EReal) : Fin W := (exists_isFirstMin x).choose

/-- `firstMin x` is a first position of the least entry. -/
theorem firstMin_spec {W : ℕ} [NeZero W] (x : Fin W → EReal) : IsFirstMin x (firstMin x) :=
  (exists_isFirstMin x).choose_spec

/-- The row after one round: `+∞` at its first smallest position, the rest as it was. -/
noncomputable def step {W : ℕ} [NeZero W] (x : Fin W → EReal) : Fin W → EReal :=
  fun k => if k = firstMin x then ⊤ else x k

/-- One entry of the row after a round. -/
theorem step_apply {W : ℕ} [NeZero W] (x : Fin W → EReal) (k : Fin W) :
    step x k = if k = firstMin x then ⊤ else x k := rfl

/-- The row after `r` rounds. -/
noncomputable def after {W : ℕ} [NeZero W] (x : Fin W → EReal) : ℕ → Fin W → EReal
  | 0 => x
  | r + 1 => step (after x r)

/-- The position round `r` (counted from 0) picks. -/
noncomputable def pick {W : ℕ} [NeZero W] (x : Fin W → EReal) (r : ℕ) : Fin W := firstMin (after x r)

/-- After `r` rounds a position picked in one of them holds `+∞`, any other its own entry. -/
theorem after_apply {W : ℕ} [NeZero W] (x : Fin W → EReal) (r : ℕ) (k : Fin W) :
    ((∃ s < r, pick x s = k) → after x r k = ⊤) ∧ ((∀ s < r, pick x s ≠ k) → after x r k = x k) := by
  induction r with
  | zero => exact ⟨fun ⟨s, hs, _⟩ => absurd hs (Nat.not_lt_zero s), fun _ => rfl⟩
  | succ r ih =>
    constructor
    · rintro ⟨s, hs, e⟩
      show (if k = firstMin (after x r) then ⊤ else after x r k) = ⊤
      split
      · rfl
      · next hne =>
        refine ih.1 ⟨s, lt_of_le_of_ne (Nat.lt_succ_iff.mp hs) ?_, e⟩
        rintro rfl
        exact hne e.symm
    · intro h
      show (if k = firstMin (after x r) then ⊤ else after x r k) = x k
      rw [if_neg fun e => h r (Nat.lt_succ_self r) e.symm]
      exact ih.2 fun s hs => h s (Nat.lt_succ_of_lt hs)

section Rounds

variable {W N : ℕ} [NeZero W] (hN : N ≤ W) (x : Fin W → EReal) (y : Fin N → EReal)
  (hy : ∀ k, x (k.castLE hN) = y k) (hfin : ∀ k, y k < ⊤) (hpad : ∀ p : Fin W, N ≤ p.val → ∀ k, y k ≤ x p)
include hy hfin

/-- Before round `r < N` some position among the first `N` is still not picked. -/
theorem exists_unpicked (r : ℕ) (hr : r < N) : ∃ k : Fin N, ∀ s < r, pick x s ≠ k.castLE hN := by
  by_contra hcon
  push Not at hcon
  choose f hf hfe using hcon
  have hinj : Function.Injective fun k : Fin N => (⟨f k, hf k⟩ : Fin r) := by
    intro a b e
    have e' : f a = f b := congrArg Fin.val e
    have : a.castLE hN = b.castLE hN := by rw [← hfe a, ← hfe b, e']
    exact Fin.castLE_injective hN this
  have := Fintype.card_le_of_injective _ hinj
  simp only [Fintype.card_fin] at this
  omega

/-- The entry round `r < N` picks is below `+∞`. -/
theorem after_pick_lt_top (r : ℕ) (hr : r < N) : after x r (pick x r) < ⊤ := by
  obtain ⟨k, hk⟩ := exists_unpicked hN x y hy hfin r hr
  refine lt_of_le_of_lt ((firstMin_spec (after x r)).1 (k.castLE hN)) ?_
  rw [(after_apply x r _).2 hk, hy]
  exact hfin k

/-- Round `r < N` picks a position no earlier round picked. -/
theorem pick_ne (r : ℕ) (hr : r < N) (s : ℕ) (hs : s < r) : pick x s ≠ pick x r := by
  intro e
  have := after_pick_lt_top hN x y hy hfin r hr
  rw [(after_apply x r _).1 ⟨s, hs, e⟩] at this
  exact lt_irrefl _ this

/-- Of the positions not picked before round `r < N`, none holds less than the one round `r` picks, and one that holds
    the same lies no earlier. -/
theorem pick_le (r : ℕ) (hr : r < N) (p : Fin W) (hp : ∀ s < r, pick x s ≠ p) :
    x (pick x r) ≤ x p ∧ (x p = x (pick x r) → pick x r ≤ p) := by
  have h := firstMin_spec (after x r)
  have e := (after_apply x r _).2 (pick_ne hN x y hy hfin r hr)
  have e' := (after_apply x r _).2 hp
  constructor
  · have := h.1 p
    rwa [e', show firstMin (after x r) = pick x r from rfl, e] at this
  · intro hx
    refine h.2 p ?_
    rw [e', show firstMin (after x r) = pick x r from rfl, e, hx]

include hpad in
/-- Round `r < N` picks one of the first `N` positions. -/
theorem pick_lt (r : ℕ) (hr : r < N) : (pick x r).val < N := by
  by_contra hge
  obtain ⟨k, hk⟩ := exists_unpicked hN x y hy hfin r hr
  have h1 := hpad (pick x r) (not_lt.mp hge) k
  have h2 := pick_le hN x y hy hfin r hr _ hk
  rw [hy] at h2
  have h3 : (pick x r).val ≤ k.val := h2.2 (le_antisymm h1 h2.1)
  have := k.isLt
  omega

end Rounds

/-- A stable sort of the positions by a key alone is the sort by the key and then the position. -/
theorem stableSort_key_eq {n : ℕ} (y : Fin n → EReal) (l : List (Fin n)) (hl : l.Pairwise (· < ·)) :
    stableSort (fun k k' => decide (y k < y k')) l
      = stableSort (fun k k' => decide (y k < y k') || (decide (y k = y k') && decide (k < k'))) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [not_lt.mpr hab.le]

/-- The same in positions. -/
theorem sortedFrom_key_eq {n : ℕ} (y : Fin n → EReal) :
    sortedFrom (fun k k' : Fin n => decide (y k < y k'))
      = sortedFrom (fun k k' => decide (y k < y k') || (decide (y k = y k') && decide (k < k'))) := by
  funext k
  unfold sortedFrom sortPositions
  rw [List.get_of_eq (stableSort_key_eq y _ (List.pairwise_lt_finRange n))]
  rfl

/-- The `j`-th pick, for `j < K ≤ N`, is the `j`-th position of the stable sort of the first `N` entries. -/
theorem pick_eq_sortedFrom {W N K : ℕ} [NeZero W] (hN : N ≤ W) (hK : K ≤ N) (x : Fin W → EReal) (y : Fin N → EReal)
    (hy : ∀ k, x (k.castLE hN) = y k) (hfin : ∀ k, y k < ⊤) (hpad : ∀ p : Fin W, N ≤ p.val → ∀ k, y k ≤ x p)
    (j : Fin K) :
    (pick x j).val = (sortedFrom (fun k k' : Fin N => decide (y k < y k')) (j.castLE hK)).val := by
  have hlt : ∀ j : Fin K, j.val < N := fun j => lt_of_lt_of_le j.isLt hK
  set σ : Fin K → Fin N := fun j => ⟨(pick x j).val, pick_lt hN x y hy hfin hpad j (hlt j)⟩ with hσ
  have hcast : ∀ j : Fin K, (σ j).castLE hN = pick x j := fun j => Fin.ext rfl
  have hval : ∀ j : Fin K, y (σ j) = x (pick x j) := fun j => by rw [← hy, hcast]
  -- nothing unpicked before round `i` sorts before the position round `i` picks
  have hnot : ∀ (i : Fin K) (p : Fin N), (∀ s < i.val, pick x s ≠ p.castLE hN) →
      (decide (y p < y (σ i)) || (decide (y p = y (σ i)) && decide (p < σ i))) = false := by
    intro i p hp
    obtain ⟨h1, h2⟩ := pick_le hN x y hy hfin i (hlt i) _ hp
    rw [hy, ← hval] at h1 h2
    rw [Bool.or_eq_false_iff]
    refine ⟨decide_eq_false (not_lt.mpr h1), ?_⟩
    by_cases e : y p = y (σ i)
    · have h3 : σ i ≤ p := h2 e
      rw [decide_eq_false (not_lt.mpr h3), Bool.and_false]
    · rw [decide_eq_false e, Bool.false_and]
  rw [sortedFrom_key_eq]
  have hB := StrictTotalBefore.of_key_then_position (fun a b : EReal => decide (a < b)) y
    (fun a => by simp) (fun a b c h1 h2 => by simp only [decide_eq_true_eq] at *; exact h1.trans h2)
    (fun a b => by simpa only [decide_eq_true_eq] using lt_trichotomy a b)
  refine congrArg Fin.val (hB.sortedFrom_eq_of_prefix hK σ ?_ ?_ ?_ j).symm
  · intro a b e
    have e' : pick x a = pick x b := by rw [← hcast, ← hcast, e]
    rcases lt_trichotomy a.val b.val with h | h | h
    · exact absurd e' (pick_ne hN x y hy hfin b (hlt b) a h)
    · exact Fin.ext h
    · exact absurd e'.symm (pick_ne hN x y hy hfin a (hlt a) b h)
  · intro i j hij
    refine hnot i (σ j) fun s hs => ?_
    rw [hcast]
    exact pick_ne hN x y hy hfin j (hlt j) s (hs.trans hij)
  · intro i p hp
    refine hnot i p fun s hs e => ?_
    have e' : (pick x s).val = p.val := congrArg Fin.val e
    exact hp ⟨s, hs.trans i.isLt⟩ (Fin.ext e')

end Cert.Order

end
-- ==== Proof.Rounds.lean ====
/-
  What one grid point leaves in its output block.

  The body computes a block of distances once (`dist`) and then runs eight rounds over it. A round finds each row's
  smallest entry, takes the least column at which it stands (`col`), stores these columns as one column of the output,
  and puts `+∞` at the place found (`next`). Read over the extended reals, a round of the block is, row by row, a round
  of `Order.step`, and the column stored is `Order.pick`.
-/
module

public import proofs.«01_k».proof.Proof.Gen.KernelIdeal.Frame
public import proofs.«01_k».proof.Proof.Order
public import Idealize.ShloMosaic.Lib.ValueIdx
public import Idealize.ShloMosaic.Lib.Pipeline.Value
public import Idealize.ShloMosaic.Lib.Pipeline.ValueKit.Geometry
public import Idealize.ShloMosaic.Lib.SortNet.Extract
public import Idealize.ShloMosaic.PureOps.Ideal.Laws

@[expose] public section

set_option maxRecDepth 16384

noncomputable section

namespace Cert.KernelIdeal.Rounds

open Idealize.ShloMosaic Idealize.ShloMosaic.ValueIdx Cert.KernelIdeal Cert.KernelIdeal.Gen

/-! ## A round on the whole block -/

section AnyFloat

variable {F : FTy → Type} [FloatOps F]

/-- The column numbers, one row of them for each row of the block. -/
def cols : IVec S256x5120 32 := iota .tc S256x5120 32 [1] iota_S256x5120_d1_w32

/-- Each row's smallest entry. -/
def low (d : FVec F S256x5120 .f32) : FVec F S256 .f32 :=
  multiReduction .minimumf [1] S256 d 0x7F800000#32 reduces_S256x5120_S256 (.inl rfl) rfl

/-- The column number where the entry is its row's smallest, 5120 elsewhere. -/
def cand (d : FVec F S256x5120 .f32) : IVec S256x5120 32 :=
  select (cmpf .oeq d (broadcastTo S256x5120 (shapeCast S256x1 (low d) shapeCasts_S256_S256x1) broadcasts_S256x1_S256x5120))
    cols (broadcast S256x5120 5120#32)

/-- Each row's least candidate. -/
def least (d : FVec F S256x5120 .f32) : IVec S256 32 :=
  multiReductionI .minsi [1] S256 (cand d) 2147483647#32 reduces_S256x5120_S256 rfl

/-- The least candidates as one column, the value a round stores. -/
def col (d : FVec F S256x5120 .f32) : IVec S256x1 32 := shapeCast S256x1 (least d) shapeCasts_S256_S256x1

/-- The block after a round: `+∞` where the candidate is the row's least one. -/
def next (d : FVec F S256x5120 .f32) : FVec F S256x5120 .f32 :=
  select (cmpi .eq (cand d) (broadcastTo S256x5120 (col d) broadcasts_S256x1_S256x5120))
    (broadcast S256x5120 (Scalar.ofBits .f32 0x7F800000#32)) d

/-- One entry of the block after a round. -/
theorem next_apply (d : FVec F S256x5120 .f32) (i : S256x5120.Idx) :
    next d i = Scalar.select (IntOp.cmpi .eq (cand d i) (broadcastTo S256x5120 (col d) broadcasts_S256x1_S256x5120 i))
      (Scalar.ofBits .f32 0x7F800000#32) (d i) := rfl

/-- The block before round `r`. -/
def block (d : FVec F S256x5120 .f32) : ℕ → FVec F S256x5120 .f32
  | 0 => d
  | r + 1 => next (block d r)

/-- The distances, before the first round. -/
def dist (x0 : Vec F S256x8 .f32) (x1 : Vec F S8x5120 .f32) : FVec F S256x5120 .f32 := k0_pay2 x0 x1

/-- The value round `r` stores. -/
def stored (x0 : Vec F S256x8 .f32) (x1 : Vec F S8x5120 .f32) (r : ℕ) : IVec S256x1 32 := col (block (dist x0 x1) r)

/-- Loading a whole block reads it. -/
theorem ld_means (x0 : Vec F S256x8 .f32) : View.ld x0 r0_0 = x0 :=
  View.ld_unit_zero (by funext a; fin_cases a <;> rfl) _ x0

/-- Loading the whole block of vertices reads it. -/
theorem ld_verts (x1 : Vec F S8x5120 .f32) : View.ld x1 r0_1 = x1 :=
  View.ld_unit_zero (by funext a; fin_cases a <;> rfl) _ x1

variable (x0 : Vec F S256x8 .f32) (x1 : Vec F S8x5120 .f32)

/-- The block that the second round works on is the distances after one round. -/
theorem after_round1 : k0_pay27 x0 x1 = block (dist x0 x1) 1 := by
  unfold k0_pay27; rw [ld_means, ld_verts]; rfl

/-- The second round's mask marks the entries that equal their row's minimum after one round. -/
theorem mask_round1 : k0_pay28 x0 x1 = cmpf .oeq (block (dist x0 x1) 1)
    (broadcastTo S256x5120 (shapeCast S256x1 (low (block (dist x0 x1) 1)) shapeCasts_S256_S256x1) broadcasts_S256x1_S256x5120) := by
  unfold k0_pay28; rw [ld_means, ld_verts]; rfl

/-- The block that the fifth round works on is the distances after four rounds. -/
theorem after_round4 : k0_pay29 x0 x1 = block (dist x0 x1) 4 := by
  unfold k0_pay29; rw [after_round1, mask_round1]; rfl

/-- The fifth round's mask marks the entries that equal their row's minimum after four rounds. -/
theorem mask_round4 : k0_pay30 x0 x1 = cmpf .oeq (block (dist x0 x1) 4)
    (broadcastTo S256x5120 (shapeCast S256x1 (low (block (dist x0 x1) 4)) shapeCasts_S256_S256x1) broadcasts_S256x1_S256x5120) := by
  unfold k0_pay30; rw [after_round1, mask_round1]; rfl

/-- The first store writes what round 0 finds. -/
theorem stored0 : k0_pay4 (View.ld x0 r0_0) (View.ld x1 r0_1) = stored x0 x1 0 := by rw [ld_means, ld_verts]; rfl
/-- The second store writes what round 1 finds. -/
theorem stored1 : k0_pay8 (k0_pay26 x0 x1) (k0_pay28 x0 x1) = stored x0 x1 1 := by rw [mask_round1]; rfl
/-- The third store writes what round 2 finds. -/
theorem stored2 : k0_pay11 (k0_pay26 x0 x1) (k0_pay27 x0 x1) (k0_pay28 x0 x1) = stored x0 x1 2 := by
  rw [after_round1, mask_round1]; rfl
/-- The fourth store writes what round 3 finds. -/
theorem stored3 : k0_pay14 (k0_pay26 x0 x1) (k0_pay27 x0 x1) (k0_pay28 x0 x1) = stored x0 x1 3 := by
  rw [after_round1, mask_round1]; rfl
/-- The fifth store writes what round 4 finds. -/
theorem stored4 : k0_pay18 (k0_pay26 x0 x1) (k0_pay30 x0 x1) = stored x0 x1 4 := by rw [mask_round4]; rfl
/-- The sixth store writes what round 5 finds. -/
theorem stored5 : k0_pay21 (k0_pay26 x0 x1) (k0_pay29 x0 x1) (k0_pay30 x0 x1) = stored x0 x1 5 := by
  rw [after_round4, mask_round4]; rfl
/-- The seventh store writes what round 6 finds. -/
theorem stored6 : k0_pay24 (k0_pay26 x0 x1) (k0_pay29 x0 x1) (k0_pay30 x0 x1) = stored x0 x1 6 := by
  rw [after_round4, mask_round4]; rfl
/-- The eighth store writes what round 7 finds. -/
theorem stored7 : k0_pay1 (k0_pay26 x0 x1) (k0_pay25 (k0_pay26 x0 x1) (k0_pay29 x0 x1) (k0_pay30 x0 x1)) = stored x0 x1 7 := by
  rw [after_round4, mask_round4]; rfl

/-- The block whose column `j` is the column `f j`. -/
def whole (f : ℕ → IVec S256x1 32) : S256x8.Idx → Elt F .i32 := fun y => f (y 1).val (ix2 (y 0) 0)

/-- Column `j` of that block, as a store at the column's rectangle. -/
theorem piece_apply (f : ℕ → IVec S256x1 32) (j : ℕ) (inb : ∀ a, ![0, j] a + S256x1.size a ≤ S256x8.size a)
    (x : (Rect.unit (s := S256x8) ![0, j] S256x1.size inb).shape.Idx) :
    f j x = whole (F := F) f ((Rect.unit (s := S256x8) ![0, j] S256x1.size inb).emb x) := by
  have h1 : (x 1).val = 0 := Nat.lt_one_iff.mp (x 1).isLt
  have e1 : ((Rect.unit (s := S256x8) ![0, j] S256x1.size inb).emb x 1).val = j := by
    rw [ValueKit.rect_emb_unit_val _ _ inb x 1, h1]; rfl
  have e0 : (ix2 ((Rect.unit (s := S256x8) ![0, j] S256x1.size inb).emb x 0) 0 : S256x1.Idx) = x := by
    refine Shape.idx_ext₂ ?_ h1.symm
    exact (ValueKit.rect_emb_unit_val _ _ inb x 0).trans (Nat.zero_add _)
  unfold whole
  rw [e1, e0]

/-- Eight stores, one a column, leave that block. -/
theorem canon_columns (f : ℕ → IVec S256x1 32) (r : Fin 256) (j : Fin 8) :
    View.canon (Val := Elt F) (s := S256x8) (e := .i32) [⟨r0_9, f 7⟩, ⟨r0_8, f 6⟩, ⟨r0_7, f 5⟩, ⟨r0_6, f 4⟩, ⟨r0_5, f 3⟩, ⟨r0_4, f 2⟩,
      ⟨r0_3, f 1⟩, ⟨r0_2, f 0⟩] (ix2 r j) = f j (ix2 r 0) := by
  refine View.canon_apply_of_pieces (Val := Elt F) (e := .i32) (whole (F := F) f) _ ?_ (ix2 r j) (cover0_2 _ _ _ _ _ _ _ _ _)
  refine List.forall_mem_cons.mpr ⟨piece_apply f 7 inb_S256x8_S256x1_0_7, ?_⟩
  refine List.forall_mem_cons.mpr ⟨piece_apply f 6 inb_S256x8_S256x1_0_6, ?_⟩
  refine List.forall_mem_cons.mpr ⟨piece_apply f 5 inb_S256x8_S256x1_0_5, ?_⟩
  refine List.forall_mem_cons.mpr ⟨piece_apply f 4 inb_S256x8_S256x1_0_4, ?_⟩
  refine List.forall_mem_cons.mpr ⟨piece_apply f 3 inb_S256x8_S256x1_0_3, ?_⟩
  refine List.forall_mem_cons.mpr ⟨piece_apply f 2 inb_S256x8_S256x1_0_2, ?_⟩
  refine List.forall_mem_cons.mpr ⟨piece_apply f 1 inb_S256x8_S256x1_0_1, ?_⟩
  exact List.forall_mem_cons.mpr ⟨piece_apply f 0 inb_S256x8_S256x1_0_0, fun _ h => absurd h List.not_mem_nil⟩

/-- Column `j` of the output block is the value round `j` stored. -/
theorem out_apply (r : Fin 256) (j : Fin 8) : out0_2 x0 x1 (ix2 r j) = stored x0 x1 j (ix2 r 0) := by
  unfold out0_2
  rw [stored0, stored1, stored2, stored3, stored4, stored5, stored6, stored7]
  exact canon_columns (stored x0 x1) r j

end AnyFloat

/-! ## A round, row by row, over the extended reals -/

/-- Row `r` of the block. -/
def row (d : FVec Ideal S256x5120 .f32) (r : Fin 256) : Fin 5120 → EReal := fun k => d (ix2 r k)

/-- One entry of a row. -/
theorem row_apply (d : FVec Ideal S256x5120 .f32) (r : Fin 256) (k : Fin 5120) : row d r k = d (ix2 r k) := rfl

/-- A place of the block lies over place `r` of the row reductions exactly when it is in row `r`. -/
theorem drop_eq_iff (i : S256x5120.Idx) (r : Fin 256) :
    reduces_S256x5120_S256.drop i = (ix1 r : S256.Idx) ↔ i 0 = r := by
  rw [funext_iff]
  constructor
  · intro h
    have := congrArg Fin.val (h 0)
    rw [reduces_S256x5120_S256.drop_apply_val_of_eq i 0 0] at this
    exact Fin.ext this
  · rintro h a
    have ha : a = 0 := Subsingleton.elim _ _
    subst ha
    refine Fin.ext ?_
    rw [reduces_S256x5120_S256.drop_apply_val_of_eq i 0 0]
    exact congrArg Fin.val h

/-- The pattern of `+∞` is `+∞`. -/
theorem inf_bits : Ideal.ofBits .f32 0x7F800000#32 = ⊤ := by simp [Ideal.ofBits, Ideal.ieee]

/-- The smallest entry of row `r` is the entry at its first smallest position. -/
theorem low_apply (d : FVec Ideal S256x5120 .f32) (r : Fin 256) :
    low d (ix1 r) = row d r (Order.firstMin (row d r)) := by
  have hm := Order.firstMin_spec (row d r)
  have e : low d (ix1 r)
      = (Finset.univ.filter fun i => reduces_S256x5120_S256.drop i = (ix1 r : S256.Idx)).fold min ⊤ d := by
    rw [← inf_bits]
    exact multiReduction_minimumf_eq_fold d _ reduces_S256x5120_S256 _ _ _
  rw [e]
  refine le_antisymm ?_ ?_
  · refine (Finset.fold_min_le _).mpr (Or.inr ⟨ix2 r (Order.firstMin (row d r)), ?_, le_rfl⟩)
    exact Finset.mem_filter.mpr ⟨Finset.mem_univ _, (drop_eq_iff _ _).mpr rfl⟩
  · refine (Finset.le_fold_min _).mpr ⟨le_top, fun i hi => ?_⟩
    have hi0 : i 0 = r := (drop_eq_iff i r).mp (Finset.mem_filter.mp hi).2
    rw [eq_ix2 i, hi0]
    exact hm.1 (i 1)

/-- A column of one entry a row, spread over the columns, read at a place. -/
theorem spread_apply {α : Type} (v : S256.Idx → α) (r : Fin 256) (k : Fin 5120) :
    broadcastTo S256x5120 (shapeCast S256x1 v shapeCasts_S256_S256x1) broadcasts_S256x1_S256x5120 (ix2 r k) = v (ix1 r) := by
  rw [broadcastTo_apply _ _ _ (ix2 r 0 : S256x1.Idx) (by intro a; fin_cases a <;> rfl)]
  rw [shapeCast_apply _ _ _ (ix1 r : S256.Idx)
    (by rw [Shape.rowMajor_val_one, Shape.rowMajor_val_two]; simp)]

/-- The column that a round stores holds, in row `r`, that row's least candidate. -/
theorem col_apply {F : FTy → Type} [FloatOps F] (d : FVec F S256x5120 .f32) (r : Fin 256) :
    col d (ix2 r 0) = least d (ix1 r) := by
  unfold col
  rw [shapeCast_apply _ _ _ (ix1 r : S256.Idx)
    (by rw [Shape.rowMajor_val_one, Shape.rowMajor_val_two]; simp)]

/-- The candidate at a place. -/
theorem cand_apply (d : FVec Ideal S256x5120 .f32) (r : Fin 256) (k : Fin 5120) :
    cand d (ix2 r k) = if row d r k = row d r (Order.firstMin (row d r)) then BitVec.ofNat 32 k.val else 5120#32 := by
  unfold cand
  rw [select_apply, cmpf_apply, spread_apply, low_apply]
  have hc : cols (ix2 r k : S256x5120.Idx) = BitVec.ofNat 32 k.val := iota_single_apply _ _ _ _ _ _
  rw [hc]
  show Scalar.select (BitVec.ofBool (decide (row d r k = row d r (Order.firstMin (row d r))))) _ (5120#32) = _
  by_cases h : row d r k = row d r (Order.firstMin (row d r))
  · rw [decide_eq_true h, if_pos h]; rfl
  · rw [decide_eq_false h, if_neg h]; rfl

/-- A column number as a signed word is itself. -/
theorem toInt_ofNat {n : ℕ} (h : n ≤ 5120) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

/-- The least candidate of row `r` is the number of its first smallest position. -/
theorem least_apply (d : FVec Ideal S256x5120 .f32) (r : Fin 256) :
    least d (ix1 r) = BitVec.ofNat 32 (Order.firstMin (row d r)).val := by
  have hm := Order.firstMin_spec (row d r)
  set m := Order.firstMin (row d r) with hmdef
  refine BitVec.eq_of_toInt_eq ?_
  refine (congrArg BitVec.toInt (multiReductionI_eq_fold .minsi (cand d) _ reduces_S256x5120_S256 rfl (ix1 r))).trans ?_
  have hf : ((Finset.univ.filter fun i => reduces_S256x5120_S256.drop i = (ix1 r : S256.Idx)).fold IntOp.minsi
      (2147483647#32) (cand d)).toInt = (Finset.univ.filter fun i => reduces_S256x5120_S256.drop i = (ix1 r : S256.Idx)).fold min
      (2147483647#32).toInt (fun i => (cand d i).toInt) :=
    (Finset.fold_hom (m := BitVec.toInt) (fun a b => SortNet.toInt_minsi a b)).symm
  refine Eq.trans hf ?_
  rw [toInt_ofNat m.isLt.le]
  refine le_antisymm ?_ ?_
  · refine (Finset.fold_min_le _).mpr (Or.inr ⟨ix2 r m, ?_, ?_⟩)
    · exact Finset.mem_filter.mpr ⟨Finset.mem_univ _, (drop_eq_iff _ _).mpr rfl⟩
    · rw [cand_apply, if_pos rfl, toInt_ofNat m.isLt.le]
  · refine (Finset.le_fold_min _).mpr ⟨?_, fun i hi => ?_⟩
    · have := m.isLt
      have e : (2147483647#32).toInt = 2147483647 := by decide
      rw [e]; omega
    · obtain ⟨a, b, rfl⟩ : ∃ (a : Fin 256) (b : Fin 5120), i = ix2 a b := ⟨i 0, i 1, eq_ix2 i⟩
      obtain rfl : a = r := (drop_eq_iff _ r).mp (Finset.mem_filter.mp hi).2
      rw [cand_apply]
      split
      · next h =>
        rw [toInt_ofNat b.isLt.le]
        exact_mod_cast hm.2 b h
      · have e : (5120#32).toInt = 5120 := by decide
        have := m.isLt
        rw [e]; omega

/-- A round of the block is a round of each row. -/
theorem row_next (d : FVec Ideal S256x5120 .f32) (r : Fin 256) : row (next d) r = Order.step (row d r) := by
  funext k
  refine Eq.trans ?_ (Order.step_apply (row d r) k).symm
  have e : row (next d) r k = Scalar.select (BitVec.ofBool (cand d (ix2 r k) == least d (ix1 r))) ⊤ (row d r k) := by
    rw [row_apply, row_apply, next_apply, col, spread_apply, show Scalar.ofBits (F := Ideal) .f32 0x7F800000#32 = ⊤ from inf_bits]
    generalize cand d (ix2 r k) = a
    generalize least d (ix1 r) = b
    rfl
  rw [e, least_apply, cand_apply]
  generalize Order.firstMin (row d r) = m
  have key : ((if row d r k = row d r m then BitVec.ofNat 32 k.val else 5120#32) == BitVec.ofNat 32 m.val)
      = decide (k = m) := by
    rw [Bool.eq_iff_iff, beq_iff_eq, decide_eq_true_iff]
    constructor
    · intro h
      have h' := congrArg BitVec.toInt h
      rw [toInt_ofNat m.isLt.le] at h'
      split at h'
      · rw [toInt_ofNat k.isLt.le] at h'
        exact Fin.ext (by exact_mod_cast h')
      · have := m.isLt
        rw [show (5120#32).toInt = 5120 by decide] at h'
        omega
    · rintro rfl
      rw [if_pos rfl]
  rw [key]
  by_cases h : k = m
  · rw [decide_eq_true h, if_pos h]; rfl
  · rw [decide_eq_false h, if_neg h]; rfl

/-- Before round `n` row `r` of the block is row `r` of the distances after `n` rounds. -/
theorem row_block (d : FVec Ideal S256x5120 .f32) (r : Fin 256) (n : ℕ) :
    row (block d n) r = Order.after (row d r) n := by
  induction n with
  | zero => rfl
  | succ n ih =>
    show row (next (block d n)) r = Order.step (Order.after (row d r) n)
    rw [row_next, ih]

/-- The output block at row `r` and column `j`: the position round `j` picks in row `r` of the distances. -/
theorem out_pick (x0 : Vec Ideal S256x8 .f32) (x1 : Vec Ideal S8x5120 .f32) (r : Fin 256) (j : Fin 8) :
    out0_2 x0 x1 (ix2 r j) = BitVec.ofNat 32 (Order.pick (row (dist x0 x1) r) j).val := by
  rw [out_apply]
  unfold stored
  rw [col_apply, least_apply, row_block]
  rfl

end Cert.KernelIdeal.Rounds

end
-- ==== Proof.Dist.lean ====
module
public import proofs.«01_k».proof.Proof.Rounds
public import Idealize.ShloMosaic.Lib.Pointwise

@[expose] public section

set_option maxRecDepth 16384

noncomputable section

/-! The squared distance of a mean and a vertex, as both programs compute it. -/

namespace Cert.Dist

open Idealize.ShloMosaic

/-- `|a|² − 2·(a·b) + |b|²` for points `a`, `b` with three coordinates, in the order both programs compute it. -/
def sqDist (a b : Fin 3 → EReal) : EReal :=
  a 0 * a 0 + a 1 * a 1 + a 2 * a 2 - Ideal.ofBits FTy.f32 1073741824#32 * ∑ x, a x * b x
    + (b 0 * b 0 + b 1 * b 1 + b 2 * b 2)

/-- The pattern `0x40000000` is two. -/
theorem two_bits : Ideal.ofBits FTy.f32 1073741824#32 = ((2 : ℝ) : EReal) := by
  simp [Ideal.ofBits, Ideal.ieee, -EReal.coe_mul]; norm_num

/-- The number that fills the coordinates of the padding vertices, about 10¹⁸. -/
theorem pad_bits : Ideal.ofBits FTy.f32 0x5D5E0B6B#32 = ((999999984306749440 : ℝ) : EReal) := by
  simp [Ideal.ofBits, Ideal.ieee, -EReal.coe_mul]; norm_num

/-- The bound of the precondition, about 10¹⁷. -/
theorem bound_bits : Ideal.ofBits FTy.f32 0x5BB1A2BC#32 = ((99999998430674944 : ℝ) : EReal) := by
  simp [Ideal.ofBits, Ideal.ieee, -EReal.coe_mul]; norm_num

/-- At real coordinates `sqDist` is the sum of the squared differences. -/
theorem sqDist_coe (a b : Fin 3 → ℝ) :
    sqDist (fun i => (a i : EReal)) (fun i => (b i : EReal))
      = (((a 0 - b 0) ^ 2 + (a 1 - b 1) ^ 2 + (a 2 - b 2) ^ 2 : ℝ) : EReal) := by
  unfold sqDist
  rw [two_bits, Fin.sum_univ_three]
  simp only [← EReal.coe_mul, ← EReal.coe_add, ← EReal.coe_sub]
  congr 1; ring

/-- A coordinate's squared difference: two numbers within `B` are at most as far apart as one of them from `P ≥ 3B`. -/
theorem sq_le_pad {B P a b : ℝ} (ha : |a| ≤ B) (hb : |b| ≤ B) (hP : 3 * B ≤ P) : (a - b) ^ 2 ≤ (a - P) ^ 2 := by
  rw [abs_le] at ha hb
  nlinarith [mul_nonneg (show 0 ≤ P - b by linarith) (show 0 ≤ P + b - 2 * a by linarith)]

/-- A point all of whose coordinates are the number filling the padding. -/
def padPoint : Fin 3 → EReal := fun _ => Ideal.ofBits FTy.f32 0x5D5E0B6B#32

/-- The distance between two points with real coordinates is not infinite. -/
theorem sqDist_lt_top (a b : Fin 3 → ℝ) : sqDist (fun i => (a i : EReal)) (fun i => (b i : EReal)) < ⊤ := by
  rw [sqDist_coe]; exact EReal.coe_lt_top _

/-- Within the bound of the precondition no vertex is farther from a mean than a padding vertex is. -/
theorem sqDist_le_pad (a b : Fin 3 → ℝ) (ha : ∀ i, |a i| ≤ 99999998430674944) (hb : ∀ i, |b i| ≤ 99999998430674944) :
    sqDist (fun i => (a i : EReal)) (fun i => (b i : EReal)) ≤ sqDist (fun i => (a i : EReal)) padPoint := by
  have hp : padPoint = fun i => (((fun _ => 999999984306749440 : Fin 3 → ℝ) i : ℝ) : EReal) := funext fun _ => pad_bits
  rw [hp, sqDist_coe, sqDist_coe, EReal.coe_le_coe_iff]
  have h (i : Fin 3) := sq_le_pad (P := 999999984306749440) (ha i) (hb i) (by norm_num)
  have := h 0; have := h 1; have := h 2
  simp only at *
  linarith

end Cert.Dist

namespace Cert.KernelIdeal.Dist

open Idealize.ShloMosaic Cert.KernelIdeal Cert.KernelIdeal.Gen

/-- The block of distances of the kernel at (r, k), when the mean's padding coordinates are zero. -/
theorem dist_apply (x0 : Vec Ideal S256x8 .f32) (x1 : Vec Ideal S8x5120 .f32) (r : Fin 256) (k : Fin 5120)
    (h0 : ∀ a : Fin 8, 3 ≤ a.val → x0 (ValueIdx.ix2 r a) = (0 : EReal)) :
    k0_pay2 x0 x1 (ValueIdx.ix2 r k)
      = Cert.Dist.sqDist (fun a => x0 (ValueIdx.ix2 r (a.castLE (by decide)))) (fun a => x1 (ValueIdx.ix2 (a.castLE (by decide)) k)) := by
  simp only [← ix2_eq_valueIdx] at h0 ⊢
  pointwise [k0_pay2]
  rw [Fin.sum_univ_eight, h0 3 (by decide), h0 4 (by decide), h0 5 (by decide), h0 6 (by decide), h0 7 (by decide)]
  simp only [zero_mul, add_zero]
  unfold Cert.Dist.sqDist
  rw [Fin.sum_univ_three]
  rfl

end Cert.KernelIdeal.Dist

end
-- ==== Proof.Entry.lean ====
module
public import proofs.«01_k».proof.Proof.Gen.KernelIdeal.Frame
public import Idealize.ShloMosaic.Lib.Routing.OpsSet
public import Idealize.ShloMosaic.Lib.Claim
public import Idealize.ShloMosaic.Lib.ValueLayout

@[expose] public section

set_option maxRecDepth 16384
set_option maxHeartbeats 2000000

noncomputable section

/-! The two padded arrays the region reads, at an index. -/

namespace Cert.KernelIdeal.Entry

open Idealize.ShloMosaic Idealize.ShloMosaic.TcCoe Idealize.SL.Sem Cert.KernelIdeal Cert.KernelIdeal.Gen
open Idealize.ShloMosaic.ValueIdx (ix2)

variable {F : FTy → Type} [FloatOps F]

/-- The two index words of a scatter as the host builds them. -/
def corner (p q : BitVec 32) : IVec S2 32 :=
  concatenate S2 0 [⟨S1, broadcastInDim S1 ![] bcast_S_S1 (constantI S_ 32 p)⟩, ⟨S1, broadcastInDim S1 ![] bcast_S_S1 (constantI S_ 32 q)⟩] concatenates_S1_S1_S2_d0

/-- Where an update of the means' scatter lands: at its own coordinates moved by the corner. -/
theorem lands_means (p q : BitVec 32) (i : Fin 50000) (a : Fin 3) (r : Fin 50176) (l : Fin 8) :
    scatter_S50176x8_S2_S50000x3_01_n_01_0.resultIdx? (ix2 i a) (corner p q) = some (ix2 r l)
      ↔ p.toInt + (i.val : Int) = r.val ∧ q.toInt + (a.val : Int) = l.val := by
  rw [Routing.resultIdx?_ix2]
  rfl

/-- Where an update of the vertices' scatter lands: at its own coordinates moved by the corner. -/
theorem lands_verts (p q : BitVec 32) (a : Fin 3) (k : Fin 5023) (r : Fin 8) (l : Fin 5120) :
    scatter_S8x5120_S2_S3x5023_01_n_01_0.resultIdx? (ix2 a k) (corner p q) = some (ix2 r l)
      ↔ p.toInt + (a.val : Int) = r.val ∧ q.toInt + (k.val : Int) = l.val := by
  rw [Routing.resultIdx?_ix2]
  rfl

/-- Where an update of the padding's scatter lands: at its own coordinates moved by the corner. -/
theorem lands_pad (p q : BitVec 32) (a : Fin 3) (k : Fin 97) (r : Fin 8) (l : Fin 5120) :
    scatter_S8x5120_S2_S3x97_01_n_01_0.resultIdx? (ix2 a k) (corner p q) = some (ix2 r l)
      ↔ p.toInt + (a.val : Int) = r.val ∧ q.toInt + (k.val : Int) = l.val := by
  rw [Routing.resultIdx?_ix2]
  rfl

variable (m : (ℓ : Loc nD τ sig) → Buf (Elt F) ℓ) (c : Dev nD)

/-- The padded means at the region's entry, as the host builds them. -/
theorem V_means : (V m c main_v4 : Vec F S50176x8 .f32)
    = Host.scatter scatter_S50176x8_S2_S50000x3_01_n_01_0 (fun _ b => b)
        (broadcastInDim S50176x8 ![] bcast_S_S50176x8 (constant S_ .f32 0x00000000#32)) (corner 0#32 0#32)
        (m ((c.tc : Thread nD τ).loc main_arg0)) := by
  unfold_abbrev_sides
  simp only [List.flatten_cons, List.flatten_nil, List.append_nil]
  unfold corner
  after_results

/-- The padded vertices at the region's entry, as the host builds them. -/
theorem V_verts : (V m c main_v15 : Vec F S8x5120 .f32)
    = Host.scatter scatter_S8x5120_S2_S3x97_01_n_01_0 (fun _ b => b)
        (Host.scatter scatter_S8x5120_S2_S3x5023_01_n_01_0 (fun _ b => b)
        (broadcastInDim S8x5120 ![] bcast_S_S8x5120 (constant S_ .f32 0x00000000#32)) (corner 0#32 0#32)
        (transpose S3x5023 [1, 0] (m ((c.tc : Thread nD τ).loc main_arg1)) transposes_S5023x3_S3x5023_1_0))
        (corner 0#32 5023#32) (broadcastInDim S3x97 ![] bcast_S_S3x97 (constant S_ .f32 0x5D5E0B6B#32)) := by
  unfold_abbrev_sides
  simp only [List.flatten_cons, List.flatten_nil, List.append_nil]
  unfold corner
  after_results

/-- The signed value of the word zero. -/
theorem toInt_zero : (0#32 : BitVec 32).toInt = 0 := by decide

/-- The signed value of the word 5023. -/
theorem toInt_verts : (5023#32 : BitVec 32).toInt = 5023 := by decide

/-- The first three lanes of the first 50000 rows of the padded means are the means. -/
theorem means_apply (r : Fin 50176) (l : Fin 8) (i : Fin 50000) (a : Fin 3) (hi : r.val = i.val) (ha : l.val = a.val) :
    (V m c main_v4 : Vec F S50176x8 .f32) (ix2 r l) = (m ((c.tc : Thread nD τ).loc main_arg0) : Vec F S50000x3 .f32) (ix2 i a) := by
  rw [V_means]
  refine Routing.scatter_set_hit _ _ _ _ _ _ (fun u hu => ?_) (ix2 i a) ?_
  · obtain ⟨i', a', rfl⟩ : ∃ (i' : Fin 50000) (a' : Fin 3), u = ix2 i' a' := ⟨u 0, u 1, ValueIdx.eq_ix2 u⟩
    rw [lands_means, toInt_zero] at hu
    obtain rfl : i' = i := Fin.ext (by omega)
    obtain rfl : a' = a := Fin.ext (by omega)
    rfl
  · rw [lands_means, toInt_zero]; omega

/-- The other lanes of the padded means hold the zero the array was filled with. -/
theorem means_pad (r : Fin 50176) (l : Fin 8) (hl : 3 ≤ l.val) :
    (V m c main_v4 : Vec F S50176x8 .f32) (ix2 r l) = FloatOps.ofBits .f32 0x00000000#32 := by
  rw [V_means, Routing.scatter_set_miss]
  · rfl
  · intro u hu
    obtain ⟨i', a', rfl⟩ : ∃ (i' : Fin 50000) (a' : Fin 3), u = ix2 i' a' := ⟨u 0, u 1, ValueIdx.eq_ix2 u⟩
    rw [lands_means, toInt_zero] at hu
    omega

/-- The first three rows of the first 5023 columns of the padded vertices are the vertices' coordinates. -/
theorem verts_apply (r : Fin 8) (l : Fin 5120) (a : Fin 3) (k : Fin 5023) (ha : r.val = a.val) (hk : l.val = k.val) :
    (V m c main_v15 : Vec F S8x5120 .f32) (ix2 r l) = (m ((c.tc : Thread nD τ).loc main_arg1) : Vec F S5023x3 .f32) (ix2 k a) := by
  rw [V_verts, Routing.scatter_set_miss]
  · refine Routing.scatter_set_hit _ _ _ _ _ _ (fun u hu => ?_) (ix2 a k) ?_
    · obtain ⟨a', k', rfl⟩ : ∃ (a' : Fin 3) (k' : Fin 5023), u = ix2 a' k' := ⟨u 0, u 1, ValueIdx.eq_ix2 u⟩
      rw [lands_verts, toInt_zero] at hu
      obtain rfl : a' = a := Fin.ext (by omega)
      obtain rfl : k' = k := Fin.ext (by omega)
      exact ValueIdx.transpose_ix2_apply ..
    · rw [lands_verts, toInt_zero]; omega
  · intro u hu
    obtain ⟨a', k', rfl⟩ : ∃ (a' : Fin 3) (k' : Fin 97), u = ix2 a' k' := ⟨u 0, u 1, ValueIdx.eq_ix2 u⟩
    rw [lands_pad, toInt_zero, toInt_verts] at hu
    omega

/-- The first three rows of the other columns hold the large number of the padding. -/
theorem verts_pad (r : Fin 8) (l : Fin 5120) (hr : r.val < 3) (hl : 5023 ≤ l.val) :
    (V m c main_v15 : Vec F S8x5120 .f32) (ix2 r l) = FloatOps.ofBits .f32 0x5D5E0B6B#32 := by
  rw [V_verts]
  refine Routing.scatter_set_hit _ _ _ _ _ _ (fun u hu => rfl) (ix2 (⟨r.val, hr⟩ : Fin 3) (⟨l.val - 5023, by omega⟩ : Fin 97)) ?_
  rw [lands_pad, toInt_zero, toInt_verts]
  simp only
  omega

end Cert.KernelIdeal.Entry

end
-- ==== Proof.Array.lean ====
module
public import proofs.«01_k».proof.Proof.Entry
public import proofs.«01_k».proof.Proof.Rounds
public import Idealize.ShloMosaic.Lib.Pipeline.ValueKit

@[expose] public section

set_option maxRecDepth 16384

noncomputable section

/-! The blocks the region reads and the array it leaves, at an index. -/

namespace Cert.KernelIdeal.Array

open Idealize.ShloMosaic Idealize.ShloMosaic.TcCoe Idealize.SL.Sem Cert.KernelIdeal Cert.KernelIdeal.Gen

variable {F : FTy → Type} [FloatOps F] (m : (ℓ : Loc nD τ sig) → Buf (Elt F) ℓ) (c : Dev nD)

/-- The block of means of point `t`. -/
def meansBlock (t : Fin cfg0.N) : Vec F S256x8 .f32 := iblk m c 0 t

/-- The block of vertices of point `t`. -/
def vertsBlock (t : Fin cfg0.N) : Vec F S8x5120 .f32 := iblk m c 1 t

/-- Point `t` takes block `t` of the means' and of the result's rows, and the whole of the vertices. -/
theorem index_facts : ∀ t : Fin cfg0.N, win0_0.index t = ![t.val, 0] ∧ win0_1.index t = ![0, 0] ∧ win0_2.index t = ![t.val, 0] := by
  decide +kernel

/-- Where point `t`'s block of means lies in the padded means. -/
theorem emb_means (t : Fin cfg0.N) (y : S256x8.Idx) (R : Fin 50176) (hR : R.val = 256 * t.val + (y 0).val) :
    ((cfg0.win 0).blk t).view.emb y = ValueIdx.ix2 R (y 1) := by
  obtain ⟨e0, -, -⟩ := index_facts t
  blk_ext [e0]
  show t.val * 256 + (y 0).val = R.val
  omega

/-- Where point `t`'s block of vertices lies in the padded vertices: it is the whole of them. -/
theorem emb_verts (t : Fin cfg0.N) (y : S8x5120.Idx) :
    ((cfg0.win 1).blk t).view.emb y = y := by
  obtain ⟨-, e1, -⟩ := index_facts t
  blk_ext [e1]

/-- Where point `t`'s block of results lies in the result array. -/
theorem emb_picks (t : Fin cfg0.N) (y : S256x8.Idx) (R : Fin 50176) (hR : R.val = 256 * t.val + (y 0).val) :
    ((cfg0.win 2).blk t).view.emb y = ValueIdx.ix2 R (y 1) := by
  obtain ⟨-, -, e2⟩ := index_facts t
  blk_ext [e2]
  show t.val * 256 + (y 0).val = R.val
  omega

/-- Row `r` of the block of means is row `256 t + r` of the padded means. -/
theorem meansBlock_apply (t : Fin cfg0.N) (r : Fin 256) (a : Fin 8) (R : Fin 50176) (hR : R.val = 256 * t.val + r.val) :
    meansBlock m c t (ValueIdx.ix2 r a) = (V m c main_v4 : Vec F S50176x8 .f32) (ValueIdx.ix2 R a) :=
  congrArg (V m c main_v4) (emb_means t (ValueIdx.ix2 r a) R hR)

/-- The block of vertices is the whole array. -/
theorem vertsBlock_apply (t : Fin cfg0.N) (a : Fin 8) (k : Fin 5120) :
    vertsBlock m c t (ValueIdx.ix2 a k) = (V m c main_v15 : Vec F S8x5120 .f32) (ValueIdx.ix2 a k) :=
  congrArg (V m c main_v15) (emb_verts t (ValueIdx.ix2 a k))

/-- The point whose block holds row `R`. -/
def point (R : Fin 50176) : Fin cfg0.N := ⟨R.val / 256, by have := R.isLt; show R.val / 256 < grid0.N; rw [N_0]; omega⟩

/-- The row inside its block that row `R` is. -/
def inner (R : Fin 50176) : Fin 256 := ⟨R.val % 256, Nat.mod_lt _ (by decide)⟩

/-- Row `R` is row `inner R` of the block of `point R`. -/
theorem row_eq (R : Fin 50176) : R.val = 256 * (point R).val + (inner R).val := (Nat.div_add_mod R.val 256).symm

/-- The array the region leaves: row `R` is row `inner R` of the block that `point R` stores. -/
def picks : Vec F S50176x8 .i32 := fun i =>
  out0_2 (meansBlock m c (point (i 0))) (vertsBlock m c (point (i 0))) (ValueIdx.ix2 (inner (i 0)) (i 1))

/-- What point `t` stores is its block of `picks`. -/
theorem stored_eq (t : Fin cfg0.N) (y : S256x8.Idx) :
    out0_2 (meansBlock m c t) (vertsBlock m c t) y = picks m c (((cfg0.win 2).blk t).view.emb y) := by
  obtain ⟨r, j, rfl⟩ : ∃ (r : Fin 256) (j : Fin 8), y = ValueIdx.ix2 r j := ⟨y 0, y 1, ValueIdx.eq_ix2 y⟩
  have ht : t.val < 196 := lt_of_lt_of_eq t.isLt N_0
  have hr := r.isLt
  rw [emb_picks t (ValueIdx.ix2 r j) ⟨256 * t.val + r.val, by omega⟩ rfl]
  have hp : point ⟨256 * t.val + r.val, by omega⟩ = t := Fin.ext (by show (256 * t.val + r.val) / 256 = t.val; omega)
  have hi : inner ⟨256 * t.val + r.val, by omega⟩ = r := Fin.ext (by show (256 * t.val + r.val) % 256 = r.val; omega)
  show _ = out0_2 (meansBlock m c (point _)) (vertsBlock m c (point _)) (ValueIdx.ix2 (inner _) _)
  rw [hp, hi]

/-- The result array after the run. -/
theorem arr_eq : (dats m 0 c).arrAt 2 cfg0.N = picks m c := by
  refine (dats m 0 c).arrAt_eq_of_emb 2 _ (fun t hf y => ?_) (fun i => ?_)
  · rw [after0_2]
    exact stored_eq m c t y
  · obtain ⟨R, j, rfl⟩ : ∃ (R : Fin 50176) (j : Fin 8), i = ValueIdx.ix2 R j := ⟨i 0, i 1, ValueIdx.eq_ix2 i⟩
    refine ⟨point R, flush0_2 _, ?_⟩
    have e : ((cfg0.win 2).blk (point R)).view.emb (ValueIdx.ix2 (inner R) j) = ValueIdx.ix2 R j :=
      emb_picks (point R) (ValueIdx.ix2 (inner R) j) R (row_eq R)
    rw [← e]
    exact Finset.mem_map_of_mem _ (Finset.mem_univ _)

end Cert.KernelIdeal.Array

end
-- ==== Proof.Ref.lean ====
module
public import proofs.«01_k».proof.Proof.Dist
public import proofs.«01_k».proof.Proof.Gen.ReferenceIdeal.Run

@[expose] public section

set_option maxRecDepth 16384

noncomputable section

/-! What the reference computes at an index: the stable sort's choice on the squared distances. -/

namespace Cert.ReferenceIdeal.Ref

open Idealize.ShloMosaic Cert.ReferenceIdeal Cert.ReferenceIdeal.Gen

/-- The reference's squared distances of all means to all vertices. -/
def dists (a0 : FVec Ideal S50000x3 .f32) (a1 : FVec Ideal S5023x3 .f32) : FVec Ideal S50000x5023 .f32 :=
  addf (subf (broadcastInDim S50000x5023 ![0, 1] bcast_S50000x1_S50000x5023_0_1 (broadcastInDim S50000x1 ![0] bcast_S50000_S50000x1_0 (Host.reduceAdd (mulf a0 a0) (constant S_ .f32 0x00000000#32) reducesTo_S50000x3_S50000_d1 h_S_))) (mulf (broadcastInDim S50000x5023 ![] bcast_S_S50000x5023 (constant S_ .f32 0x40000000#32)) (Host.dotGeneral dot_S50000x3_S3x5023_S50000x5023_1_0_0_1_n_n none a0 (transpose S3x5023 [1, 0] a1 transposes_S5023x3_S3x5023_1_0)))) (broadcastInDim S50000x5023 ![0, 1] bcast_S1x5023_S50000x5023_0_1 (broadcastInDim S1x5023 ![1] bcast_S5023_S1x5023_1 (Host.reduceAdd (mulf a1 a1) (constant S_ .f32 0x00000000#32) reducesTo_S5023x3_S5023_d1 h_S_)))

/-- The reference's squared distance of mean `q` and vertex `k`. -/
theorem dists_apply (a0 : FVec Ideal S50000x3 .f32) (a1 : FVec Ideal S5023x3 .f32) (q : Fin 50000) (k : Fin 5023) :
    dists a0 a1 (ValueIdx.ix2 q k) = Cert.Dist.sqDist (fun a => a0 (ValueIdx.ix2 q a)) (fun a => a1 (ValueIdx.ix2 k a)) := by
  simp only [← ix2_eq_valueIdx]
  pointwise [dists]
  rw [Fin.sum_univ_three (fun x => a0 (ix2 q x) * a0 (ix2 q x)), Fin.sum_univ_three (fun x => a1 (ix2 k x) * a1 (ix2 k x))]
  rfl

/-- The first eight of the nine positions `top_k` returns on the negated rows of `y`: at `(q, j)` the position that the
    stable ascending sort of row `q` of `y` puts at place `j`. -/
theorem topK_apply (y : FVec Ideal S50000x5023 .f32) (q : Fin 50000) (j : Fin 8) :
    extractStridedSlice S50000x8 ![0, 0] ((Host.topK S50000x9 1 (FloatOps.cmpfTotal .gt) (Host.negf y) sliceFits_S50000x5023_S50000x9).2) slices_S50000x9_S50000x8_0_0 (ValueIdx.ix2 q j)
      = BitVec.ofNat 32 (sortedFrom (fun k k' : Fin 5023 => decide ((y (ValueIdx.ix2 q k) : EReal) < y (ValueIdx.ix2 q k'))) (j.castLE (by decide))).val := by
  simp only [← ix2_eq_valueIdx]
  pointwise [Host.topK, Host.sort2]
  have hal (i : Fin 5023) (k : Fin 5023) :
      (ix2 q i : S50000x5023.Idx).along 1 k = ix2 q k := by
    funext a; fin_cases a <;> rfl
  have hcmp (a b : EReal) :
      ((FloatOps.cmpfTotal (F := Ideal) (φ := .f32) .gt (-a : EReal) (-b : EReal)) == 1#1) = decide (a < b) := by
    rw [Ideal.cmpfTotal_def]
    have : Ideal.cmp CmpDirection.gt.ordered (-a : EReal) (-b : EReal) = BitVec.ofBool (decide (a < b)) := by
      simp only [CmpDirection.ordered, Ideal.cmp, EReal.neg_lt_neg_iff]
    rw [this]
    cases decide (a < b) <;> rfl
  simp only [hal]
  have e : (fun k k' : Fin 5023 => FloatOps.cmpfTotal (F := Ideal) (φ := .f32) CmpDirection.gt (-y (ix2 q k)) (-y (ix2 q k')) == 1#1)
      = fun k k' => decide ((y (ix2 q k) : EReal) < y (ix2 q k')) := funext fun k => funext fun k' => hcmp _ _
  rw [e]
  rfl

end Cert.ReferenceIdeal.Ref

end
-- ==== Proof.Pre.lean ====
module
public import proofs.«01_k».proof.Pre_bounded
public import proofs.«01_k».proof.Proof.Dist
public import Idealize.ShloMosaic.Lib.Affine
public import Idealize.ShloMosaic.Lib.IdealHost

@[expose] public section

set_option maxRecDepth 16384

noncomputable section

/-! What the precondition says of the entries of the two arguments. -/

namespace Cert.Pre_bounded

open Idealize.ShloMosaic

/-- The side conditions of the precondition's operations. -/
instance facts : Facts where
  bcast_S_S50000x3 := by decide
  reducesTo_S50000x3_S_d0_1 := by decide
  h_S_ := by decide
  bcast_S_S5023x3 := by decide
  reducesTo_S5023x3_S_d0_1 := by decide

/-- A conjunction over a set of bits starting from a one is one only if every bit is. -/
theorem all_of_fold {ι : Type} (s : Finset ι) (x : ι → BitVec 1) (h : s.fold IntOp.andi 1#1 x = 1#1) :
    ∀ i ∈ s, x i = 1#1 := by
  classical
  induction s using Finset.induction_on with
  | empty => intro i hi; cases hi
  | insert a s ha ih =>
    rw [Finset.fold_insert ha, IntOp.andi_eq_one] at h
    intro i hi
    rcases Finset.mem_insert.mp hi with rfl | hi
    · exact h.1
    · exact ih h.2 i hi

/-- A conjunction over all entries of an array, if one, makes every entry one. -/
theorem all_of_reduce {s : Shape} {axes : List (Fin s.rank)} (h : s.ReducesTo axes S_) (hu : 0 < S_.numel) (x : IVec s 1)
    (e : Host.reduce IntOp.andi x (constantI S_ 1 1#1) h hu ValueIdx.ix0 = 1#1) (i : s.Idx) : x i = 1#1 := by
  rw [Host.reduce_eq_fold] at e
  exact all_of_fold _ x e i (Finset.mem_filter.mpr ⟨Finset.mem_univ _, funext fun a => a.elim0⟩)

/-- The bound of the precondition as a real number. -/
def bound : ℝ := 99999998430674944

/-- An extended real whose absolute value is at most the bound is a real number within it. -/
theorem real_of_le (x : EReal) (h : max x (-x) ≤ Ideal.ofBits FTy.f32 0x5BB1A2BC#32) :
    ∃ a : ℝ, x = (a : EReal) ∧ |a| ≤ bound := by
  rw [Cert.Dist.bound_bits] at h
  obtain ⟨h1, h2⟩ := max_le_iff.mp h
  induction x with
  | bot => exact absurd h2 (by simp)
  | top => exact absurd h1 (by simp)
  | coe a =>
    refine ⟨a, rfl, abs_le.mpr ⟨?_, ?_⟩⟩
    · rw [← EReal.coe_neg, EReal.coe_le_coe_iff] at h2; unfold bound; linarith
    · rw [EReal.coe_le_coe_iff] at h1; exact h1

/-- An entry that passes the precondition's comparison is a real number within the bound. -/
theorem real_of_cmp {s : Shape} (hb : S_.BroadcastsInDim s (![] : Fin 0 → Fin s.rank)) (x : FVec Ideal s .f32) (i : s.Idx)
    (h : cmpf .ole (Host.absf x) (broadcastInDim s ![] hb (constant S_ .f32 0x5BB1A2BC#32)) i = 1#1) :
    ∃ a : ℝ, x i = (a : EReal) ∧ |a| ≤ bound := by
  refine real_of_le _ ?_
  have e : BitVec.ofBool (decide (max (x i : EReal) (-x i) ≤ Ideal.ofBits FTy.f32 0x5BB1A2BC#32)) = 1#1 := h
  by_contra hn
  rw [decide_eq_false hn] at e
  exact absurd e (by decide)

/-- The precondition makes every entry of the two arguments a real number within the bound. -/
theorem reals_of_fn (a0 : FVec Ideal S50000x3 .f32) (a1 : FVec Ideal S5023x3 .f32) (h : fn a0 a1 = fun _ => 1#1) :
    (∀ i, ∃ a : ℝ, a0 i = (a : EReal) ∧ |a| ≤ bound) ∧ ∀ i, ∃ a : ℝ, a1 i = (a : EReal) ∧ |a| ≤ bound := by
  have e := congrFun h ValueIdx.ix0
  obtain ⟨e0, e1⟩ := IntOp.andi_eq_one.mp e
  exact ⟨fun i => real_of_cmp _ a0 i (all_of_reduce _ _ _ e0 i), fun i => real_of_cmp _ a1 i (all_of_reduce _ _ _ e1 i)⟩

end Cert.Pre_bounded

end
-- ==== Proof.Result.lean ====
module
public import proofs.«01_k».proof.Proof.Order
public import proofs.«01_k».proof.Proof.Rounds
public import proofs.«01_k».proof.Proof.Dist
public import proofs.«01_k».proof.Proof.Entry
public import proofs.«01_k».proof.Proof.Array
public import proofs.«01_k».proof.Proof.Ref
public import proofs.«01_k».proof.Proof.Pre

@[expose] public section

set_option maxRecDepth 16384

noncomputable section

/-! The kernel's array of positions, cut back to the 50000 means, is the reference's. -/

namespace Cert.Result

open Idealize.ShloMosaic Idealize.ShloMosaic.TcCoe Idealize.SL.Sem Cert.KernelIdeal Cert.KernelIdeal.Gen

variable (m : (ℓ : Loc nD τ sig) → Buf (Elt Ideal) ℓ) (c : Dev nD)

/-- The means as launched. -/
def means : FVec Ideal S50000x3 .f32 := m ((c.tc : Thread nD τ).loc main_arg0)

/-- The vertices as launched. -/
def verts : FVec Ideal S5023x3 .f32 := m ((c.tc : Thread nD τ).loc main_arg1)

/-- The row of the padded means that holds mean `q`. -/
def rowOf (q : Fin 50000) : Fin 50176 := q.castLE (by decide)

/-- The row of distances the kernel searches for mean `q`. -/
def kernelRow (q : Fin 50000) : Fin 5120 → EReal :=
  Rounds.row (Rounds.dist (Array.meansBlock m c (Array.point (rowOf q))) (Array.vertsBlock m c (Array.point (rowOf q))))
    (Array.inner (rowOf q))

/-- The three coordinates the kernel's block holds for mean `q` are the mean's. -/
theorem mean_coord (q : Fin 50000) (a : Fin 3) :
    Array.meansBlock m c (Array.point (rowOf q)) (ValueIdx.ix2 (Array.inner (rowOf q)) (a.castLE (by decide)))
      = means m c (ValueIdx.ix2 q a) :=
  (Array.meansBlock_apply m c _ _ _ (rowOf q) (Array.row_eq _)).trans (Entry.means_apply m c _ _ q a rfl rfl)

/-- The other coordinates are zero. -/
theorem mean_zero (q : Fin 50000) (a : Fin 8) (ha : 3 ≤ a.val) :
    Array.meansBlock m c (Array.point (rowOf q)) (ValueIdx.ix2 (Array.inner (rowOf q)) a) = (0 : EReal) :=
  (Array.meansBlock_apply m c _ _ _ (rowOf q) (Array.row_eq _)).trans
    ((Entry.means_pad m c _ _ ha).trans Ideal.ofBits_zero_f32)

/-- The kernel's distance of mean `q` to column `k`. -/
theorem kernelRow_apply (q : Fin 50000) (k : Fin 5120) :
    kernelRow m c q k = Cert.Dist.sqDist (fun a => means m c (ValueIdx.ix2 q a))
      (fun a => (V m c main_v15 : Vec Ideal S8x5120 .f32) (ValueIdx.ix2 (a.castLE (by decide)) k)) := by
  unfold kernelRow
  rw [Rounds.row_apply]
  refine (Dist.dist_apply _ _ _ _ (mean_zero m c q)).trans (congrArg₂ _ (funext fun a => mean_coord m c q a) ?_)
  exact funext fun a => Array.vertsBlock_apply m c _ _ _

/-- In a vertex's column it is the reference's distance. -/
theorem kernelRow_vert (q : Fin 50000) (k : Fin 5023) :
    kernelRow m c q (k.castLE (by decide)) = ReferenceIdeal.Ref.dists (means m c) (verts m c) (ValueIdx.ix2 q k) := by
  rw [kernelRow_apply, ReferenceIdeal.Ref.dists_apply]
  exact congrArg _ (funext fun a => Entry.verts_apply m c _ _ a k rfl rfl)

/-- In a padding column it is the distance to the padding's point. -/
theorem kernelRow_pad (q : Fin 50000) (p : Fin 5120) (hp : 5023 ≤ p.val) :
    kernelRow m c q p = Cert.Dist.sqDist (fun a => means m c (ValueIdx.ix2 q a)) Cert.Dist.padPoint := by
  rw [kernelRow_apply]
  exact congrArg _ (funext fun a => Entry.verts_pad m c _ _ a.isLt hp)

/-- The kernel's picks for mean `q` are the places of the reference's stable sort, under the precondition. -/
theorem pick_eq (hpre : Cert.Pre_bounded.fn (F := Ideal) (means m c) (verts m c) = fun _ => 1#1) (q : Fin 50000) (j : Fin 8) :
    (Cert.Order.pick (kernelRow m c q) j).val
      = (sortedFrom (fun k k' : Fin 5023 => decide ((ReferenceIdeal.Ref.dists (means m c) (verts m c) (ValueIdx.ix2 q k) : EReal)
          < ReferenceIdeal.Ref.dists (means m c) (verts m c) (ValueIdx.ix2 q k'))) (j.castLE (by decide))).val := by
  obtain ⟨h0, h1⟩ := Cert.Pre_bounded.reals_of_fn _ _ hpre
  choose a ha hab using fun i : Fin 3 => h0 (ValueIdx.ix2 q i)
  choose b hb hbb using fun (k : Fin 5023) (i : Fin 3) => h1 (ValueIdx.ix2 k i)
  have ea : (fun i => means m c (ValueIdx.ix2 q i)) = fun i => ((a i : ℝ) : EReal) := funext ha
  have eb (k : Fin 5023) : (fun i => verts m c (ValueIdx.ix2 k i)) = fun i => ((b k i : ℝ) : EReal) := funext (hb k)
  refine Cert.Order.pick_eq_sortedFrom (by decide) (by decide) _ (fun k => (ReferenceIdeal.Ref.dists (means m c) (verts m c) (ValueIdx.ix2 q k) : EReal))
    (kernelRow_vert m c q) (fun k => ?_) (fun p hp k => ?_) j
  · rw [ReferenceIdeal.Ref.dists_apply, ea, eb]
    exact Cert.Dist.sqDist_lt_top _ _
  · rw [ReferenceIdeal.Ref.dists_apply, kernelRow_pad m c q p hp, ea, eb]
    exact Cert.Dist.sqDist_le_pad _ _ hab (hbb k)

/-- The kernel's first result is the reference's, under the precondition. -/
theorem result_eq (hpre : Cert.Pre_bounded.fn (F := Ideal) (means m c) (verts m c) = fun _ => 1#1) :
    extractStridedSlice S50000x8 ![0, 0] (Array.picks m c) slices_S50176x8_S50000x8_0_0
      = extractStridedSlice ReferenceIdeal.S50000x8 ![0, 0]
          ((Host.topK ReferenceIdeal.S50000x9 1 (FloatOps.cmpfTotal .gt) (Host.negf (ReferenceIdeal.Ref.dists (means m c) (verts m c)))
            ReferenceIdeal.Gen.sliceFits_S50000x5023_S50000x9).2) ReferenceIdeal.Gen.slices_S50000x9_S50000x8_0_0 := by
  funext i
  obtain ⟨q, j, rfl⟩ : ∃ (q : Fin 50000) (j : Fin 8), i = ValueIdx.ix2 q j := ⟨i 0, i 1, ValueIdx.eq_ix2 i⟩
  refine Eq.trans ?_ (ReferenceIdeal.Ref.topK_apply _ q j).symm
  rw [← pick_eq m c hpre q j]
  have hs : extractStridedSlice S50000x8 ![0, 0] (Array.picks m c) slices_S50176x8_S50000x8_0_0 (ValueIdx.ix2 q j)
      = Array.picks m c (ValueIdx.ix2 (rowOf q) j) := by
    refine congrArg (Array.picks m c) ?_
    funext a
    refine Fin.ext ?_
    match a with
    | ⟨0, _⟩ => exact Nat.zero_add _
    | ⟨1, _⟩ => exact Nat.zero_add _
  rw [hs]
  exact Rounds.out_pick _ _ _ _

end Cert.Result

end
-- ==== Proof.Runs.lean ====
module
public import proofs.«01_k».proof.Proof.Result
public import Idealize.ShloMosaic.Lib.Quiescent

@[expose] public section

set_option maxRecDepth 16384

noncomputable section

/-! The two programs' runs, read at the results. -/

namespace Cert.KernelIdeal.Runs

open Idealize.ShloMosaic Idealize.ShloMosaic.TcCoe Idealize.SL.Sem Cert.KernelIdeal Cert.KernelIdeal.Gen

variable {F : FTy → Type} [FloatOps F] (m : (ℓ : Loc nD τ sig) → Buf (Elt F) ℓ) (ρ : Dev nD → PrngReg)

/-- What the lines after the region leave in the first result: the region's array cut to the 50000 means. -/
theorem tail_v17 (c : Dev nD) : Pipeline.afterTail₀ cfgs (dats m) 0 (V0 m) [hostOps1] c main_v17
    = (extractStridedSlice S50000x8 ![0, 0] (Array.picks m c) slices_S50176x8_S50000x8_0_0 : Vec F S50000x8 .i32) := by
  unfold Pipeline.afterTail₀
  rw [← Array.arr_eq m c]
  rw [← Pipeline.withArrays_arr spec0 launch0.win.arr_inj c (V0 m c) (fun w => (dats m 0 c).arrAt w (cfgs 0).N) 2]
  simp only [List.flatten_cons, List.flatten_nil, List.append_nil]
  after_results

/-- What they leave in the second result: the constant. -/
theorem tail_cst (c : Dev nD) : Pipeline.afterTail₀ cfgs (dats m) 0 (V0 m) [hostOps1] c main_cst_7
    = (constant S_ .f32 0x00000000#32 : Vec F S_ .f32) := by
  unfold Pipeline.afterTail₀
  simp only [List.flatten_cons, List.flatten_nil, List.append_nil]
  after_results

/-- Every run of the kernel's program ends with the picks, cut to the means, and the constant, its arguments unchanged. -/
theorem run : θ_run defs (onTc (τ := τ) (main (F := F))) ⟨m, fun _ => 0, ρ⟩ fun r => ∀ c : Dev nD,
      r.2.mem ((c.tc : Thread nD τ).loc main_v17)
        = (extractStridedSlice S50000x8 ![0, 0] (Array.picks m c) slices_S50176x8_S50000x8_0_0 : Vec F S50000x8 .i32)
      ∧ r.2.mem ((c.tc : Thread nD τ).loc main_cst_7) = (constant S_ .f32 0x00000000#32 : Vec F S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v17 (Pipeline.mem_restRefs_of main_v17 (by decide) (by decide))).trans (tail_v17 m c),
      ((h c).2 main_cst_7 (Pipeline.mem_restRefs_of main_cst_7 (by decide) (by decide))).trans (tail_cst m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Runs

namespace Cert.ReferenceIdeal.Runs

open Idealize.ShloMosaic Idealize.ShloMosaic.TcCoe Idealize.SL.Sem Cert.ReferenceIdeal Cert.ReferenceIdeal.Gen

/-- The reference's frame: its arguments end unchanged, and its machine has no semaphore. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2.2, sem_eq_zero_of_no_sems (by decide) r.2⟩) (Value.run m ρ)

/-- The reference's first result as a function of the two arguments. -/
def positions (a0 : FVec Ideal S50000x3 .f32) (a1 : FVec Ideal S5023x3 .f32) : IVec S50000x8 32 :=
  extractStridedSlice S50000x8 ![0, 0] ((Host.topK S50000x9 1 (FloatOps.cmpfTotal .gt) (Host.negf (Ref.dists a0 a1)) sliceFits_S50000x5023_S50000x9).2) slices_S50000x9_S50000x8_0_0

/-- Every run of the reference from the arguments `a0 c`, `a1 c` ends with `positions` of them and the constant zero. -/
theorem run (m : (ℓ : Loc nD τ sig) → Buf (Elt Ideal) ℓ) (ρ : Dev nD → PrngReg)
    (a0 : Dev nD → FVec Ideal S50000x3 .f32) (a1 : Dev nD → FVec Ideal S5023x3 .f32)
    (h0 : ∀ c : Dev nD, m ((c.tc : Thread nD τ).loc main_arg0) = a0 c) (h1 : ∀ c : Dev nD, m ((c.tc : Thread nD τ).loc main_arg1) = a1 c) :
    θ_run defs (onTc (τ := τ) (main (F := Ideal))) ⟨m, fun _ => 0, ρ⟩ fun r => ∀ c : Dev nD,
      r.2.mem ((c.tc : Thread nD τ).loc main_v15) = positions (a0 c) (a1 c)
      ∧ r.2.mem ((c.tc : Thread nD τ).loc main_cst_2) = (constant S_ .f32 0x00000000#32 : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  obtain rfl : (fun c : Dev nD => m ((c.tc : Thread nD τ).loc main_arg0)) = a0 := funext h0
  obtain rfl : (fun c : Dev nD => m ((c.tc : Thread nD τ).loc main_arg1)) = a1 := funext h1
  exact Value.run m ρ

end Cert.ReferenceIdeal.Runs

end
-- ==== Proof.lean ====
module
public import proofs.«01_k».proof.Defs
public import proofs.«01_k».proof.Proof.Gen.Kernel.Frame
public import proofs.«01_k».proof.Proof.Gen.KernelIdeal.Frame
public import proofs.«01_k».proof.Proof.Runs

@[expose] public section

set_option maxRecDepth 16384

noncomputable section

open Idealize.ShloMosaic Idealize.ShloMosaic.TcCoe Idealize.SL.Sem

/-- The kernel's and the reference's ideal programs agree on both results, under the precondition: the array of
    positions by `Cert.Result.result_eq`, the constant zero by itself. -/
theorem Cert.Proof.algebraic : Cert.algebraic_KernelIdeal_ReferenceIdeal_pre_bounded := by
  intro m g m' g' hpre hagree
  have hk := KernelIdeal.Runs.run m g
  have hr := ReferenceIdeal.Runs.run m' g' (Cert.Result.means m) (Cert.Result.verts m) (fun c => (hagree c).1) (fun c => (hagree c).2)
  have he := fun c => Cert.Result.result_eq m c (hpre c)
  refine ⟨_, _, hk, (θ_run _ _ _).mono (fun r h c => ?_) hr⟩
  have h1 := (h c).1
  have h2 := (h c).2.1
  rw [he c]
  refine ⟨h1, h2, (h c).2.2⟩

/-- Everything the claims state: the frames of the kernel as compiled, of its ideal program and of the reference's, that the
    ideal program keeps the kernel's operations, and that kernel and reference agree on both results under the precondition. -/
theorem Cert.Proof.claim : Cert.Claim :=
  ⟨Cert.Kernel.Gen.facts, Cert.KernelIdeal.Gen.facts, Cert.ReferenceIdeal.Gen.facts, Cert.Pre_bounded.facts,
    fun m g _ => Cert.Kernel.Gen.frame m g, fun m g _ => Cert.KernelIdeal.Gen.frame m g, fun m g _ => Cert.KernelIdeal.Gen.frame m g,
    fun m g _ => Cert.ReferenceIdeal.Runs.frame m g, fun m g _ => Cert.ReferenceIdeal.Runs.frame m g, trivial, Cert.Proof.algebraic⟩

end
